-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_top_above_bottom [hPre_top_above_bottom : Cert.Pre_top_above_bottom.Facts] (m : (ℓ : Loc Cert.KernelIdeal.nD Cert.KernelIdeal.τ Cert.KernelIdeal.sig) → Buf (Elt Ideal) ℓ) : Prop :=
  ∀ c : Dev Cert.KernelIdeal.nD,
    (Cert.Pre_top_above_bottom.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_top_above_bottom [hPre_top_above_bottom : Cert.Pre_top_above_bottom.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_top_above_bottom.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_top_above_bottom [hKernelIdeal : Cert.KernelIdeal.Facts] [hPre_top_above_bottom : Cert.Pre_top_above_bottom.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_top_above_bottom m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_top_above_bottom [hReferenceIdeal : Cert.ReferenceIdeal.Facts] [hPre_top_above_bottom : Cert.Pre_top_above_bottom.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_top_above_bottom m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_top_above_bottom [hKernelIdeal : Cert.KernelIdeal.Facts] [hReferenceIdeal : Cert.ReferenceIdeal.Facts] [hPre_top_above_bottom : Cert.Pre_top_above_bottom.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_top_above_bottom m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_indices) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_v4) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_top_above_bottom : Cert.Pre_top_above_bottom.Facts),
    quiescent_Kernel (hKernel := hKernel)
    ∧ quiescent_KernelIdeal (hKernelIdeal := hKernelIdeal)
    ∧ quiescent_KernelIdeal_pre_top_above_bottom (hKernelIdeal := hKernelIdeal) (hPre_top_above_bottom := hPre_top_above_bottom)
    ∧ quiescent_ReferenceIdeal (hReferenceIdeal := hReferenceIdeal)
    ∧ quiescent_ReferenceIdeal_pre_top_above_bottom (hReferenceIdeal := hReferenceIdeal) (hPre_top_above_bottom := hPre_top_above_bottom)
    ∧ preserves_Kernel_KernelIdeal
    ∧ algebraic_KernelIdeal_ReferenceIdeal_pre_top_above_bottom (hKernelIdeal := hKernelIdeal) (hReferenceIdeal := hReferenceIdeal) (hPre_top_above_bottom := hPre_top_above_bottom)
-- ==== Pre_top_above_bottom.lean ====
abbrev S16384x2048 : Shape := ⟨2, ![16384, 2048]⟩
abbrev S64x2048 : Shape := ⟨2, ![64, 2048]⟩
abbrev S64 : Shape := ⟨1, ![64]⟩
abbrev S2048x64 : Shape := ⟨2, ![2048, 64]⟩
abbrev S16384x64 : Shape := ⟨2, ![16384, 64]⟩
abbrev S1x64 : Shape := ⟨2, ![1, 64]⟩
abbrev S16384x8 : Shape := ⟨2, ![16384, 8]⟩
abbrev S_ : Shape := ⟨0, ![]⟩

class Facts : Prop where
  transposes_S64x2048_S2048x64_1_0 : S64x2048.Transposes [1, 0] S2048x64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  sliceFits_S16384x64_S16384x8 : S16384x64.Slices (fun _ => 0) S16384x8
  bcast_S_S16384x8 : S_.BroadcastsInDim S16384x8 (![] : Fin 0 → Fin S16384x8.rank)
  reducesTo_S16384x8_S_d0_1 : S16384x8.ReducesTo [0, 1] S_
  h_S_ : 0 < S_.numel
  dot_S16384x2048_S2048x64_S16384x64_1_0_0_1_n_n_wf : DotDims.WF S16384x2048 S2048x64 S16384x64 [1] [0] [0] [1] [] []

variable [Facts]

def dot_S16384x2048_S2048x64_S16384x64_1_0_0_1_n_n : DotDims S16384x2048 S2048x64 S16384x64 where
  lhsContracting := [1]
  rhsContracting := [0]
  lhsNonContracting := [0]
  rhsNonContracting := [1]
  lhsBatch := []
  rhsBatch := []
  wf := dot_S16384x2048_S2048x64_S16384x64_1_0_0_1_n_n_wf
def fn {F : FTy → Type} [FloatOps F] (main_arg0 : FVec F S16384x2048 .f32) (main_arg1 : FVec F S64x2048 .f32) (main_arg2 : FVec F S64 .f32) : IVec S_ 1 :=
  let main_v0 : FVec F S2048x64 .f32 := (transpose S2048x64 [1, 0] · transposes_S64x2048_S2048x64_1_0) main_arg1
  let main_v1 : FVec F S16384x64 .f32 := (fun l r => Host.dotGeneral dot_S16384x2048_S2048x64_S16384x64_1_0_0_1_n_n none l r) main_arg0 main_v0
  let main_v2 : FVec F S1x64 .f32 := broadcastInDim S1x64 ![1] bcast_S64_S1x64_1 main_arg2
  let main_v3 : FVec F S16384x64 .f32 := broadcastInDim S16384x64 ![0, 1] bcast_S1x64_S16384x64_0_1 main_v2
  let main_v4 : FVec F S16384x64 .f32 := addf main_v1 main_v3
  let main_values : FVec F S16384x8 .f32 := (fun x => (Host.topK S16384x8 1 (FloatOps.cmpfTotal .gt) x sliceFits_S16384x64_S16384x8).1) main_v4
  let main_indices : IVec S16384x8 32 := (fun x => (Host.topK S16384x8 1 (FloatOps.cmpfTotal .gt) x sliceFits_S16384x64_S16384x8).2) main_v4
  let main_cst : FVec F S_ .f32 := constant S_ .f32 0xFF800000#32
  let main_v5 : FVec F S16384x8 .f32 := broadcastInDim S16384x8 ![] bcast_S_S16384x8 main_cst
  let main_v6 : IVec S16384x8 1 := cmpf .ogt main_values main_v5
  let main_c : IVec S_ 1 := constantI S_ 1 1#1
  let main_v7 : IVec S_ 1 := (fun x v => Host.reduce IntOp.andi x v reducesTo_S16384x8_S_d0_1 h_S_) main_v6 main_c
  main_v7
-- ==== Kernel.lean ====
abbrev S16384x2048 : Shape := ⟨2, ![16384, 2048]⟩
abbrev S64x2048 : Shape := ⟨2, ![64, 2048]⟩
abbrev S64 : Shape := ⟨1, ![64]⟩
abbrev S16384x64 : Shape := ⟨2, ![16384, 64]⟩
abbrev S16384x8 : Shape := ⟨2, ![16384, 8]⟩
abbrev S2048x2048 : Shape := ⟨2, ![2048, 2048]⟩
abbrev S2048x64 : Shape := ⟨2, ![2048, 64]⟩
abbrev S2048x8 : Shape := ⟨2, ![2048, 8]⟩
abbrev S512x2048 : Shape := ⟨2, ![512, 2048]⟩
abbrev S64x512 : Shape := ⟨2, ![64, 512]⟩
abbrev S64x1 : Shape := ⟨2, ![64, 1]⟩
abbrev S512x64 : Shape := ⟨2, ![512, 64]⟩
abbrev S512 : Shape := ⟨1, ![512]⟩
abbrev S1x512 : Shape := ⟨2, ![1, 512]⟩
abbrev S8x512 : Shape := ⟨2, ![8, 512]⟩
abbrev S512x8 : Shape := ⟨2, ![512, 8]⟩

abbrev nBuf : Space → Nat
  | .hbm => 6
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S64x2048, .f32⟩
  | .hbm, ⟨2, _⟩ => ⟨S64, .f32⟩
  | .hbm, ⟨3, _⟩ => ⟨S16384x64, .f32⟩
  | .hbm, ⟨4, _⟩ => ⟨S16384x8, .i32⟩
  | .hbm, ⟨5, _⟩ => ⟨S16384x8, .f32⟩
  | .local _ .vmem, ⟨0, _⟩ => ⟨S2048x2048, .f32⟩
  | .local _ .vmem, ⟨1, _⟩ => ⟨S2048x2048, .f32⟩
  | .local _ .vmem, ⟨2, _⟩ => ⟨S64x2048, .f32⟩
  | .local _ .vmem, ⟨3, _⟩ => ⟨S64, .f32⟩
  | .local _ .vmem, ⟨4, _⟩ => ⟨S2048x64, .f32⟩
  | .local _ .vmem, ⟨5, _⟩ => ⟨S2048x64, .f32⟩
  | .local _ .vmem, ⟨6, _⟩ => ⟨S2048x8, .i32⟩
  | .local _ .vmem, ⟨7, _⟩ => ⟨S2048x8, .i32⟩
  | .local _ .vmem, ⟨8, _⟩ => ⟨S2048x8, .f32⟩
  | .local _ .vmem, ⟨9, _⟩ => ⟨S2048x8, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_2 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x8 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S16384x2048 : Shape := ⟨2, ![16384, 2048]⟩
abbrev S64x2048 : Shape := ⟨2, ![64, 2048]⟩
abbrev S64 : Shape := ⟨1, ![64]⟩
abbrev S2048x64 : Shape := ⟨2, ![2048, 64]⟩
abbrev S16384x64 : Shape := ⟨2, ![16384, 64]⟩
abbrev S1x64 : Shape := ⟨2, ![1, 64]⟩
abbrev S16384x8 : Shape := ⟨2, ![16384, 8]⟩
abbrev S_ : Shape := ⟨0, ![]⟩
abbrev S16384 : Shape := ⟨1, ![16384]⟩
abbrev S16384x1 : Shape := ⟨2, ![16384, 1]⟩

abbrev nBuf : Space → Nat
  | .hbm => 24
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S64x2048, .f32⟩
  | .hbm, ⟨2, _⟩ => ⟨S64, .f32⟩
  | .hbm, ⟨3, _⟩ => ⟨S2048x64, .f32⟩
  | .hbm, ⟨4, _⟩ => ⟨S16384x64, .f32⟩
  | .hbm, ⟨5, _⟩ => ⟨S1x64, .f32⟩
  | .hbm, ⟨6, _⟩ => ⟨S16384x64, .f32⟩
  | .hbm, ⟨7, _⟩ => ⟨S16384x64, .f32⟩
  | .hbm, ⟨8, _⟩ => ⟨S16384x8, .f32⟩
  | .hbm, ⟨9, _⟩ => ⟨S16384x8, .i32⟩
  | .hbm, ⟨10, _⟩ => ⟨S_, .f32⟩
  | .hbm, ⟨11, _⟩ => ⟨S16384, .f32⟩
  | .hbm, ⟨12, _⟩ => ⟨S_, .f32⟩
  | .hbm, ⟨13, _⟩ => ⟨S16384, .f32⟩
  | .hbm, ⟨14, _⟩ => ⟨S16384, .f32⟩
  | .hbm, ⟨15, _⟩ => ⟨S16384x1, .f32⟩
  | .hbm, ⟨16, _⟩ => ⟨S16384x8, .f32⟩
  | .hbm, ⟨17, _⟩ => ⟨S16384x8, .f32⟩
  | .hbm, ⟨18, _⟩ => ⟨S16384x8, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S16384x8, .f32⟩
  | .hbm, ⟨23, _⟩ => ⟨S16384x8, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_values : Ref sig .tc := ⟨.hbm, 8, rfl⟩
abbrev main_indices : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== Proof.Rounds.lean ====
/-
  THE KERNEL'S STORES, FOLDED BACK TO THE ROUNDS (hand-written, untrusted).

  The body treats four strips of 512 tokens alike; a strip's logits `logitsT` lie one token to a column. `step` is one round of the
  top-k on such a block, `works` the block as each round finds it, `topI` and `topW` the picked experts and their weights as the
  body stores them. `out3_eq`, `out4_eq` and `out5_eq` say that what the body leaves in the three output buffers is these
  functions of the four strips.
-/
module

public import proofs.«01_k».proof.Proof.Gen.KernelIdeal.Frame

@[expose] public section

set_option maxRecDepth 16384

noncomputable section

namespace Cert.KernelIdeal.Rounds

open Idealize.ShloMosaic Idealize.ShloMosaic.TcCoe
open Cert.KernelIdeal Cert.KernelIdeal.Gen

variable {F : FTy → Type} [FloatOps F]

/-- A strip's logits, one token to a column: the experts' rows times the tokens' rows, plus each expert's bias. -/
def logitsT (w : Vec F S64x2048 .f32) (b : Vec F S64 .f32) (h : Vec F S512x2048 .f32) : FVec F S64x512 .f32 :=
  addf (matmul dot_S64x2048_S512x2048_S64x512_1_1_0_0_n_n none w h (constant S64x512 .f32 0x00000000#32))
    (broadcastTo S64x512 (shapeCast S64x1 b shapeCasts_S64_S64x1) broadcasts_S64x1_S64x512)

/-- The experts' numbers down every column. -/
def experts : IVec S64x512 32 := iota .tc S64x512 32 [0] iota_S64x512_d0_w32

/-- Each column's maximum, as one row. -/
def maxes (v : FVec F S64x512 .f32) : FVec F S1x512 .f32 :=
  shapeCast S1x512 (multiReduction .maximumf [0] S512 v 0xFF800000#32 reduces_S64x512_S512 (.inl rfl) rfl) shapeCasts_S512_S1x512

/-- The least expert number at which each column attains its maximum, as one row. -/
def picks (v : FVec F S64x512 .f32) : IVec S1x512 32 :=
  shapeCast S1x512 (multiReductionI .minsi [0] S512
    (select (cmpf .oeq v (broadcastTo S64x512 (maxes v) broadcasts_S1x512_S64x512)) experts (broadcast S64x512 64#32))
    2147483647#32 reduces_S64x512_S512 rfl) shapeCasts_S512_S1x512

/-- The block after a round: −∞ at the place each column's round picked. -/
def step (v : FVec F S64x512 .f32) : FVec F S64x512 .f32 :=
  select (cmpi .eq experts (broadcastTo S64x512 (picks v) broadcasts_S1x512_S64x512))
    (broadcast S64x512 (Scalar.ofBits .f32 0xFF800000#32)) v

/-- The block as round `r` finds it. -/
def works (v : FVec F S64x512 .f32) : ℕ → FVec F S64x512 .f32
  | 0 => v
  | r + 1 => step (works v r)

/-- The eight rounds' picks, one round to a row. -/
def allPicks (v : FVec F S64x512 .f32) : IVec S8x512 32 :=
  concatenate S8x512 0 [⟨S1x512, picks (works v 0)⟩, ⟨S1x512, picks (works v 1)⟩, ⟨S1x512, picks (works v 2)⟩, ⟨S1x512, picks (works v 3)⟩,
    ⟨S1x512, picks (works v 4)⟩, ⟨S1x512, picks (works v 5)⟩, ⟨S1x512, picks (works v 6)⟩, ⟨S1x512, picks (works v 7)⟩]
    concatenates_S1x512_S1x512_S1x512_S1x512_S1x512_S1x512_S1x512_S1x512_S8x512_d0

/-- The eight rounds' maxima, one round to a row. -/
def allMaxes (v : FVec F S64x512 .f32) : FVec F S8x512 .f32 :=
  concatenate S8x512 0 [⟨S1x512, maxes (works v 0)⟩, ⟨S1x512, maxes (works v 1)⟩, ⟨S1x512, maxes (works v 2)⟩, ⟨S1x512, maxes (works v 3)⟩,
    ⟨S1x512, maxes (works v 4)⟩, ⟨S1x512, maxes (works v 5)⟩, ⟨S1x512, maxes (works v 6)⟩, ⟨S1x512, maxes (works v 7)⟩]
    concatenates_S1x512_S1x512_S1x512_S1x512_S1x512_S1x512_S1x512_S1x512_S8x512_d0

/-- The exponentials of the maxima, each less its column's first. -/
def exps (x : FVec F S8x512 .f32) : FVec F S8x512 .f32 :=
  exp (subf x (broadcastTo S8x512 (extractStridedSlice S1x512 ![0, 0] x slices_S8x512_o0_0_S1x512) broadcasts_S1x512_S8x512))

/-- Each entry over its column's sum. -/
def shares (e : FVec F S8x512 .f32) : FVec F S8x512 .f32 :=
  divf e (broadcastTo S8x512 (shapeCast S1x512 (multiReduction .add [0] S512 e 0x00000000#32 reduces_S8x512_S512 (.inl rfl) rfl)
    shapeCasts_S512_S1x512) broadcasts_S1x512_S8x512)

/-- A strip's picked experts, one token to a row. -/
def topI (v : FVec F S64x512 .f32) : IVec S512x8 32 := transpose S512x8 [1, 0] (allPicks v) transposes_S8x512_p1_0_S512x8

/-- A strip's weights, one token to a row. -/
def topW (v : FVec F S64x512 .f32) : FVec F S512x8 .f32 :=
  transpose S512x8 [1, 0] (shares (exps (allMaxes v))) transposes_S8x512_p1_0_S512x8

/-- A strip's logits, one token to a row. -/
def logits (v : FVec F S64x512 .f32) : FVec F S512x64 .f32 := transpose S512x64 [1, 0] v transposes_S64x512_p1_0_S512x64

/-- What the body leaves in the logits' buffer: the four strips' logits, last strip first. -/
theorem out3_eq (x0 : Vec F S2048x2048 .f32) (x1 : Vec F S64x2048 .f32) (x2 : Vec F S64 .f32) :
    out0_3 x0 x1 x2 = View.canon [⟨r0_12, logits (logitsT (View.ld x1 r0_0) (View.ld x2 r0_1) (View.ld x0 r0_11))⟩,
      ⟨r0_9, logits (logitsT (View.ld x1 r0_0) (View.ld x2 r0_1) (View.ld x0 r0_8))⟩,
      ⟨r0_6, logits (logitsT (View.ld x1 r0_0) (View.ld x2 r0_1) (View.ld x0 r0_5))⟩,
      ⟨r0_3, logits (logitsT (View.ld x1 r0_0) (View.ld x2 r0_1) (View.ld x0 r0_2))⟩] := rfl

/-- What the body leaves in the indices' buffer: the four strips' picks. -/
theorem out4_eq (x0 : Vec F S2048x2048 .f32) (x1 : Vec F S64x2048 .f32) (x2 : Vec F S64 .f32) :
    out0_4 x0 x1 x2 = View.canon [⟨r0_13, topI (logitsT (View.ld x1 r0_0) (View.ld x2 r0_1) (View.ld x0 r0_11))⟩,
      ⟨r0_10, topI (logitsT (View.ld x1 r0_0) (View.ld x2 r0_1) (View.ld x0 r0_8))⟩,
      ⟨r0_7, topI (logitsT (View.ld x1 r0_0) (View.ld x2 r0_1) (View.ld x0 r0_5))⟩,
      ⟨r0_4, topI (logitsT (View.ld x1 r0_0) (View.ld x2 r0_1) (View.ld x0 r0_2))⟩] := rfl

/-- What the body leaves in the weights' buffer: the four strips' weights. -/
theorem out5_eq (x0 : Vec F S2048x2048 .f32) (x1 : Vec F S64x2048 .f32) (x2 : Vec F S64 .f32) :
    out0_5 x0 x1 x2 = View.canon [⟨r0_13, topW (logitsT (View.ld x1 r0_0) (View.ld x2 r0_1) (View.ld x0 r0_11))⟩,
      ⟨r0_10, topW (logitsT (View.ld x1 r0_0) (View.ld x2 r0_1) (View.ld x0 r0_8))⟩,
      ⟨r0_7, topW (logitsT (View.ld x1 r0_0) (View.ld x2 r0_1) (View.ld x0 r0_5))⟩,
      ⟨r0_4, topW (logitsT (View.ld x1 r0_0) (View.ld x2 r0_1) (View.ld x0 r0_2))⟩] := rfl

end Cert.KernelIdeal.Rounds

end
-- ==== Proof.Rows.lean ====
/-
  ONE ROW OF THE ROUTER, as mathematics over the extended reals (hand-written, untrusted).

  `x : Fin n → EReal` is a token's logits. `src x r` is the place of the row's `r`-th entry once the row is sorted stably, greater
  entries first: what the reference's top-k takes. `work x r` is the row with its first `r` such places put to −∞: what the
  kernel's `r`-th round looks at. While the `r`-th greatest entry is above −∞, the greatest entry of `work x r` is `x (src x r)`
  (`fold_max_work`), the least place where it is attained is `src x r` (`fold_min_work`), and putting that place to −∞ gives
  `work x (r + 1)` (`work_succ`).
-/
module

public import Idealize.ShloMosaic.Lib.SortPrefix
public import Idealize.ShloMosaic.Lib.WordArith
public import Idealize.ShloMosaic.PureOps.Ideal
public import Idealize.ShloMosaic.PureOps.Reduce

@[expose] public section

noncomputable section

namespace Cert.Rows

open Idealize.ShloMosaic

/-! ## A stable sort by a key is the sort by the key and then the position -/

/-- Two comparators that agree whether each member of `l` sorts before `a` insert `a` at the same spot. -/
theorem insertBefore_congr {ι : Type} {B B' : ι → ι → Bool} (a : ι) (l : List ι) (h : ∀ b ∈ l, B b a = B' b a) :
    insertBefore B a l = insertBefore B' a l := by
  induction l with
  | nil => rfl
  | cons b l ih =>
    unfold insertBefore
    rw [h b List.mem_cons_self, ih fun c hc => h c (List.mem_cons_of_mem _ hc)]

/-- Two comparators that agree whenever the second element comes earlier in `l` than the first sort `l` alike. -/
theorem stableSort_congr {ι : Type} {B B' : ι → ι → Bool} (l : List ι) (h : l.Pairwise fun a b => B b a = B' b a) :
    stableSort B l = stableSort B' l := by
  induction l with
  | nil => rfl
  | cons a l ih =>
    have h' := List.pairwise_cons.mp h
    unfold stableSort
    rw [ih h'.2]
    exact insertBefore_congr a _ fun b hb => h'.1 b ((perm_stableSort B' l).mem_iff.mp hb)

variable {n : ℕ}

/-- Place `k` comes before place `k'`: the entry there is greater, or it is equal and its place is lower. -/
def before (x : Fin n → EReal) (k k' : Fin n) : Bool :=
  decide (x k' < x k) || (decide (x k = x k') && decide (k < k'))

/-- The place of the row's `r`-th entry, greater entries first and equal ones in the order of their places. -/
def src (x : Fin n → EReal) (r : Fin n) : Fin n :=
  sortedFrom (fun k k' => Ideal.cmpTotal .gt (x k) (x k') == 1#1) r

/-- "Greater, then the lower place" is a strict total order of the places. -/
theorem strictTotal_before (x : Fin n → EReal) : StrictTotalBefore (before x) :=
  StrictTotalBefore.of_key_then_position (fun a b : EReal => decide (b < a)) x (by simp)
    (fun a b c hab hbc => by simp only [decide_eq_true_eq] at *; exact hbc.trans hab)
    (fun a b => by
      simp only [decide_eq_true_eq]
      rcases lt_trichotomy a b with h | h | h
      · exact Or.inr (Or.inr h)
      · exact Or.inr (Or.inl h)
      · exact Or.inl h)

/-- The comparison of the top-k, as a decision. -/
theorem cmpTotal_gt (a b : EReal) : (Ideal.cmpTotal .gt a b == 1#1) = decide (b < a) := by
  show (BitVec.ofBool (decide (b < a)) == 1#1) = _
  cases decide (b < a) <;> rfl

/-- The stable sort by the entries alone lists the places as the sort by entry and place does. -/
theorem src_eq (x : Fin n → EReal) : src x = sortedFrom (before x) := by
  funext r
  unfold src sortedFrom sortPositions
  have e : stableSort (fun k k' => Ideal.cmpTotal .gt (x k) (x k') == 1#1) (List.finRange n)
      = stableSort (before x) (List.finRange n) := by
    refine stableSort_congr _ ((List.pairwise_lt_finRange n).imp fun {a b} hab => ?_)
    have hba : ¬ b < a := not_lt.mpr hab.le
    simp [before, cmpTotal_gt, hba]
  rw [List.get_of_eq e]
  rfl

theorem src_injective (x : Fin n → EReal) : Function.Injective (src x) := sortedFrom_injective _

theorem src_surjective (x : Fin n → EReal) : Function.Surjective (src x) := sortedFrom_surjective _

/-- A later entry in the order is not before an earlier one. -/
theorem not_before (x : Fin n → EReal) {i j : Fin n} (h : i ≤ j) : before x (src x j) (src x i) = false := by
  rw [src_eq]
  rcases h.lt_or_eq with h | h
  · exact sortedFrom_noInversion (before x) (before x)
      (fun a b hab => (strictTotal_before x).asymm a b hab) (fun _ _ h => h) (strictTotal_before x).negTrans _ _ h
  · subst h; exact (strictTotal_before x).irrefl _

/-- A later entry in the order is no greater than an earlier one. -/
theorem le_of_le (x : Fin n → EReal) {i j : Fin n} (h : i ≤ j) : x (src x j) ≤ x (src x i) := by
  have := not_before x h
  simp only [before, Bool.or_eq_false_iff, decide_eq_false_iff_not, not_lt] at this
  exact this.1

/-- Of two equal entries the later in the order has the higher place. -/
theorem place_le (x : Fin n → EReal) {i j : Fin n} (h : i ≤ j) (e : x (src x j) = x (src x i)) : src x i ≤ src x j := by
  have := not_before x h
  simp only [before, Bool.or_eq_false_iff, Bool.and_eq_false_iff, decide_eq_false_iff_not, not_lt] at this
  exact this.2.resolve_left fun h => h e

/-! ## The rounds -/

/-- The row with the places of its first `r` entries put to −∞. -/
def work (x : Fin n → EReal) (r : ℕ) (j : Fin n) : EReal :=
  if ∃ i : Fin n, i.val < r ∧ src x i = j then ⊥ else x j

theorem work_zero (x : Fin n → EReal) : work x 0 = x := by
  funext j
  simp [work]

/-- A round puts its place to −∞. -/
theorem work_succ (x : Fin n → EReal) (r : Fin n) (j : Fin n) :
    work x (r.val + 1) j = if j = src x r then ⊥ else work x r.val j := by
  unfold work
  by_cases hj : j = src x r
  · rw [if_pos hj, if_pos ⟨r, Nat.lt_succ_self _, hj.symm⟩]
  · rw [if_neg hj]
    refine if_congr ⟨fun ⟨i, hi, e⟩ => ⟨i, ?_, e⟩, fun ⟨i, hi, e⟩ => ⟨i, Nat.lt_succ_of_lt hi, e⟩⟩ rfl rfl
    rcases Nat.lt_succ_iff_lt_or_eq.mp hi with h | h
    · exact h
    · exact absurd (e.symm.trans (congrArg (src x) (Fin.ext h))) hj

/-- At the round's own place the row is still as it was. -/
theorem work_src (x : Fin n → EReal) (r : Fin n) : work x r.val (src x r) = x (src x r) := by
  unfold work
  rw [if_neg]
  rintro ⟨i, hi, e⟩
  have := src_injective x e
  subst this
  exact lt_irrefl _ hi

/-- A place not yet taken is that of an entry no earlier in the order. -/
theorem exists_later (x : Fin n → EReal) {r : ℕ} {j : Fin n} (h : ¬ ∃ i : Fin n, i.val < r ∧ src x i = j) :
    ∃ k : Fin n, r ≤ k.val ∧ src x k = j := by
  obtain ⟨k, hk⟩ := src_surjective x j
  exact ⟨k, not_lt.mp fun hlt => h ⟨k, hlt, hk⟩, hk⟩

/-- No entry of the row a round looks at exceeds the round's own. -/
theorem work_le (x : Fin n → EReal) (r : Fin n) (j : Fin n) : work x r.val j ≤ x (src x r) := by
  unfold work
  split
  · exact bot_le
  · next h =>
    obtain ⟨k, hk, rfl⟩ := exists_later x h
    exact le_of_le x hk

/-- Where the row a round looks at attains the round's own entry, above −∞, the place is no lower. -/
theorem place_le_of_work (x : Fin n → EReal) (r : Fin n) (hr : ⊥ < x (src x r)) (j : Fin n)
    (h : work x r.val j = x (src x r)) : src x r ≤ j := by
  unfold work at h
  split at h
  · rw [← h] at hr; exact absurd hr (lt_irrefl _)
  · next hn =>
    obtain ⟨k, hk, rfl⟩ := exists_later x hn
    exact place_le x hk h

/-- The greatest entry of the row a round looks at is the round's own. -/
theorem fold_max_work (x : Fin n → EReal) (r : Fin n) :
    (Finset.univ : Finset (Fin n)).fold max ⊥ (work x r.val) = x (src x r) := by
  refine le_antisymm ?_ ?_
  · rw [Finset.fold_max_le]
    exact ⟨bot_le, fun j _ => work_le x r j⟩
  · rw [Finset.le_fold_max]
    exact Or.inr ⟨src x r, Finset.mem_univ _, (work_src x r).ge⟩

/-- A fold of the signed minimum over words below `2 ^ 31` is any member that is no more than the others. -/
theorem fold_minsi {ι : Type} [DecidableEq ι] (s : Finset ι) (f : ι → BitVec 32) (hf : ∀ i ∈ s, (f i).toNat < 2 ^ 31) :
    (s.fold IntOp.minsi 2147483647#32 f).toNat = s.fold min 2147483647 (fun i => (f i).toNat)
      ∧ (s.fold IntOp.minsi 2147483647#32 f).toNat < 2 ^ 31 := by
  induction s using Finset.induction_on with
  | empty => exact ⟨rfl, by rw [Finset.fold_empty]; decide⟩
  | insert a s ha ih =>
    have ih := ih fun i hi => hf i (Finset.mem_insert_of_mem hi)
    have h := WordArith.toNat_minsi_of_lt (f a) (s.fold IntOp.minsi 2147483647#32 f) (hf a (Finset.mem_insert_self _ _)) ih.2
    rw [Finset.fold_insert ha, Finset.fold_insert ha, h, ih.1]
    exact ⟨rfl, lt_of_le_of_lt (min_le_left _ _) (hf a (Finset.mem_insert_self _ _))⟩

/-- The least place at which the row a round looks at attains the round's own entry, above −∞, is the round's own place. -/
theorem fold_min_work (x : Fin n → EReal) (r : Fin n) (hn : n < 2 ^ 31) (hr : ⊥ < x (src x r)) :
    (Finset.univ : Finset (Fin n)).fold IntOp.minsi 2147483647#32
        (fun j => if work x r.val j = x (src x r) then BitVec.ofNat 32 j.val else BitVec.ofNat 32 n)
      = BitVec.ofNat 32 (src x r).val := by
  have hlt : ∀ j : Fin n, (BitVec.ofNat 32 j.val).toNat = j.val := fun j => by
    rw [BitVec.toNat_ofNat]; exact Nat.mod_eq_of_lt (by omega)
  have hnn : (BitVec.ofNat 32 n).toNat = n := by rw [BitVec.toNat_ofNat]; exact Nat.mod_eq_of_lt (by omega)
  apply BitVec.eq_of_toNat_eq
  rw [(fold_minsi _ _ fun j _ => by split <;> simp only [hlt, hnn] <;> omega).1, hlt]
  refine le_antisymm ?_ ?_
  · rw [Finset.fold_min_le]
    refine Or.inr ⟨src x r, Finset.mem_univ _, ?_⟩
    rw [if_pos (work_src x r), hlt]
  · rw [Finset.le_fold_min]
    refine ⟨by omega, fun j _ => ?_⟩
    split
    · next h => rw [hlt]; exact place_le_of_work x r hr j h
    · rw [hnn]; omega

/-- The greatest of the row's first `k` entries is its first. -/
theorem fold_max_src {k : ℕ} (hk : k + 1 ≤ n) (x : Fin n → EReal) :
    (Finset.univ : Finset (Fin (k + 1))).fold max ⊥ (fun i => x (src x (i.castLE hk))) = x (src x ⟨0, by omega⟩) := by
  refine le_antisymm ?_ ?_
  · rw [Finset.fold_max_le]
    exact ⟨bot_le, fun j _ => le_of_le x (Nat.zero_le _)⟩
  · rw [Finset.le_fold_max]
    exact Or.inr ⟨0, Finset.mem_univ _, le_of_eq rfl⟩

end Cert.Rows

end
-- ==== Proof.Columns.lean ====
/-
  THE ROUNDS, COLUMN BY COLUMN, over the extended reals (hand-written, untrusted).

  Each function of Proof/Rounds.lean is read at an index. On a column whose eight greatest entries are above −∞, round `r` finds the
  column as `Rows.work` has it (`works_apply`), so its maximum is the column's `r`-th entry in the stable order and its pick that
  entry's place (`maxes_works`, `picks_works`); `topI_apply` and `topW_apply` say so of the stored blocks.
-/
module

public import proofs.«01_k».proof.Proof.Rounds
public import proofs.«01_k».proof.Proof.Rows
public import Idealize.ShloMosaic.Lib.Pipeline.ValueKit

@[expose] public section

set_option maxRecDepth 16384

noncomputable section

namespace Cert.KernelIdeal.Rounds

open Idealize.ShloMosaic Idealize.ShloMosaic.TcCoe
open Cert.KernelIdeal Cert.KernelIdeal.Gen

/-- The word the kernel masks with and starts its maxima from is −∞. -/
theorem ofBits_negInf : Ideal.ofBits .f32 0xFF800000#32 = ⊥ := by simp [Ideal.ofBits, Ideal.ieee]

/-- A strip's logit: the product of the expert's row and the token's, plus the expert's bias. -/
theorem logitsT_apply (w : Vec Ideal S64x2048 .f32) (b : Vec Ideal S64 .f32) (h : Vec Ideal S512x2048 .f32) (e : Fin 64) (j : Fin 512) :
    logitsT (F := Ideal) w b h (ix2 e j) = (∑ k : Fin 2048, w (ix2 e k) * h (ix2 j k)) + b (ix1 e) := by
  pointwise [logitsT]

/-- A column's maximum is the fold of `max` over the column. -/
theorem maxes_apply (v : FVec Ideal S64x512 .f32) (j : Fin 512) :
    maxes v (ix2 0 j) = (Finset.univ : Finset (Fin 64)).fold max ⊥ fun k => v (ix2 k j) := by
  pointwise [maxes, ofBits_negInf]

/-- A column's pick is the fold of the signed minimum over the numbers of the places that attain its maximum. -/
theorem picks_apply (v : FVec Ideal S64x512 .f32) (j : Fin 512) :
    picks v (ix2 0 j) = (Finset.univ : Finset (Fin 64)).fold IntOp.minsi 2147483647#32 fun k =>
      if v (ix2 k j) = maxes v (ix2 0 j) then BitVec.ofNat 32 k.val else 64#32 := by
  pointwise [picks, experts]

/-- A round puts the place whose number its column's pick is to −∞. -/
theorem step_apply (v : FVec Ideal S64x512 .f32) (e : Fin 64) (j : Fin 512) :
    step v (ix2 e j) = if BitVec.ofNat 32 e.val = picks v (ix2 0 j) then ⊥ else v (ix2 e j) := by
  pointwise [step, experts, ofBits_negInf]
  by_cases h : BitVec.ofNat 32 e.val = picks v (ix2 0 j)
  · simp [Scalar.select, IntOp.cmpi, h]
  · simp [Scalar.select, IntOp.cmpi, h, beq_eq_false_iff_ne.mpr h]

variable (v : FVec Ideal S64x512 .f32) (j : Fin 512)

/-- The column `j` of a block. -/
abbrev col : Fin 64 → EReal := fun k => v (ix2 k j)

/-- Round `r < 8` of a row of 64, as a place of the row. -/
abbrev rank (r : Fin 8) : Fin 64 := r.castLE (by decide)

/-- The column's eight greatest entries are above −∞. -/
def Top (x : Fin 64 → EReal) : Prop := ∀ r : Fin 8, ⊥ < x (Rows.src x (rank r))

variable {v j}

/-- If the block's column at a round is `Rows.work`, the round's maximum is the column's entry of that rank. -/
theorem maxes_of_work {x : Fin 64 → EReal} {u : FVec Ideal S64x512 .f32} (r : Fin 8)
    (hu : ∀ e : Fin 64, u (ix2 e j) = Rows.work x r.val e) : maxes u (ix2 0 j) = x (Rows.src x (rank r)) := by
  rw [maxes_apply]
  exact (congrArg (fun f => Finset.fold max ⊥ f Finset.univ) (funext hu)).trans (Rows.fold_max_work x (rank r))

/-- … and its pick is the number of that entry's place. -/
theorem picks_of_work {x : Fin 64 → EReal} (hx : Top x) {u : FVec Ideal S64x512 .f32} (r : Fin 8)
    (hu : ∀ e : Fin 64, u (ix2 e j) = Rows.work x r.val e) : picks u (ix2 0 j) = BitVec.ofNat 32 (Rows.src x (rank r)).val := by
  rw [picks_apply, maxes_of_work r hu]
  simp only [hu]
  exact Rows.fold_min_work x (rank r) (by decide) (hx r)

/-- Round `r` finds the column with its first `r` entries put to −∞. -/
theorem works_apply (hx : Top (col v j)) (r : ℕ) (hr : r < 8) (e : Fin 64) :
    works v r (ix2 e j) = Rows.work (col v j) r e := by
  induction r generalizing e with
  | zero => rw [Rows.work_zero]; rfl
  | succ r ih =>
    have ih := ih (by omega)
    show step (works v r) (ix2 e j) = _
    rw [step_apply, picks_of_work hx ⟨r, by omega⟩ ih, ih]
    refine Eq.trans ?_ (Rows.work_succ (col v j) (rank ⟨r, by omega⟩) e).symm
    refine if_congr ⟨fun h => ?_, fun h => by rw [h]⟩ rfl rfl
    have := congrArg BitVec.toNat h
    simp only [BitVec.toNat_ofNat] at this
    apply Fin.ext
    omega

/-- Round `r`'s maximum is the column's entry of rank `r`. -/
theorem maxes_works (hx : Top (col v j)) (r : Fin 8) :
    maxes (works v r.val) (ix2 0 j) = col v j (Rows.src (col v j) (rank r)) :=
  maxes_of_work r (works_apply hx r.val r.isLt)

/-- Round `r`'s pick is the number of the place of the column's entry of rank `r`. -/
theorem picks_works (hx : Top (col v j)) (r : Fin 8) :
    picks (works v r.val) (ix2 0 j) = BitVec.ofNat 32 (Rows.src (col v j) (rank r)).val :=
  picks_of_work hx r (works_apply hx r.val r.isLt)

/-- The rounds' maxima stacked. -/
theorem allMaxes_apply (r : Fin 8) : allMaxes v (ix2 r j) = maxes (works v r.val) (ix2 0 j) := by
  fin_cases r <;> pointwise [allMaxes] <;> rfl

/-- The rounds' picks stacked. -/
theorem allPicks_apply (r : Fin 8) : allPicks v (ix2 r j) = picks (works v r.val) (ix2 0 j) := by
  fin_cases r <;> pointwise [allPicks] <;> rfl

/-- A row of logits' softmax over its eight greatest, each less the greatest. -/
def weight (x : Fin 64 → EReal) (r : Fin 8) : EReal :=
  Ideal.div (Ideal.exp (x (Rows.src x (rank r)) - x (Rows.src x (rank 0))))
    (∑ i : Fin 8, Ideal.exp (x (Rows.src x (rank i)) - x (Rows.src x (rank 0))))

/-- The stored picks: token `j`'s expert of rank `r`. -/
theorem topI_apply (hx : Top (col v j)) (r : Fin 8) :
    topI v (ix2 j r) = BitVec.ofNat 32 (Rows.src (col v j) (rank r)).val := by
  rw [← picks_works hx, ← allPicks_apply]
  pointwise [topI]

/-- The stored weights: token `j`'s weight of rank `r`. -/
theorem topW_apply (hx : Top (col v j)) (r : Fin 8) : topW v (ix2 j r) = weight (col v j) r := by
  pointwise [topW, shares, exps]
  simp only [allMaxes_apply, maxes_works hx]
  exact congrArg _ rfl

/-- The stored logits. -/
theorem logits_apply (e : Fin 64) : logits v (ix2 j e) = v (ix2 e j) := by
  pointwise [logits]

end Cert.KernelIdeal.Rounds

end
-- ==== Proof.KernelValue.lean ====
/-
  THE KERNEL'S RESULT ARRAYS, over the extended reals (hand-written, untrusted).

  `row X W b i` is token `i`'s logits. After the launch the logits' array holds every token's row (`final3`) and, if every row's
  eight greatest entries are above −∞, the indices' array holds the places of those eight in the stable order (`final4`) and the
  weights' array their softmax (`final5`). A point of the grid holds 2048 tokens in four strips of 512; a strip's column `j` is the
  logits of one token (`strip0` … `strip3`).
-/
module

public import proofs.«01_k».proof.Proof.Columns
public import proofs.«01_k».proof.Proof.Gen.KernelIdeal.Value

@[expose] public section

set_option maxRecDepth 16384

noncomputable section

namespace Cert.KernelIdeal.Rounds

open Idealize.ShloMosaic Idealize.ShloMosaic.TcCoe Idealize.SL.Sem
open Idealize.ShloMosaic.Pipeline (Dat)
open Cert.KernelIdeal Cert.KernelIdeal.Gen

/-- Token `i`'s logits: the product of the token's row and each expert's row, plus the expert's bias. -/
def row (X : FVec Ideal S16384x2048 .f32) (W : FVec Ideal S64x2048 .f32) (b : FVec Ideal S64 .f32) (i : Fin 16384) (e : Fin 64) : EReal :=
  (∑ k : Fin 2048, X (ix2 i k) * W (ix2 e k)) + b (ix1 e)

/-- If a strip's column `j` is of token `i`, its logits are the token's. -/
theorem col_logitsT {X : FVec Ideal S16384x2048 .f32} {W : FVec Ideal S64x2048 .f32} {B : FVec Ideal S64 .f32} {i : Fin 16384}
    {w : Vec Ideal S64x2048 .f32} {b : Vec Ideal S64 .f32} {h : Vec Ideal S512x2048 .f32} {j : Fin 512}
    (hw : ∀ e k, w (ix2 e k) = W (ix2 e k)) (hb : ∀ e, b (ix1 e) = B (ix1 e)) (hh : ∀ k, h (ix2 j k) = X (ix2 i k)) :
    col (logitsT (F := Ideal) w b h) j = row X W B i := by
  funext e
  show logitsT (F := Ideal) w b h (ix2 e j) = _
  rw [logitsT_apply, hb]
  refine congrArg (· + B (ix1 e)) (Finset.sum_congr rfl fun k _ => ?_)
  rw [hw, hh]
  exact mul_comm (G := EReal) _ _

variable (m : (ℓ : Loc nD τ sig) → Buf (Elt Ideal) ℓ)

/-- Which block of its array each window holds at each point of the grid. -/
theorem idx : ∀ t : Fin cfg0.N, win0_0.index t = ![t.val, 0] ∧ win0_1.index t = ![0, 0] ∧ win0_2.index t = ![0]
    ∧ win0_3.index t = ![t.val, 0] ∧ win0_4.index t = ![t.val, 0] ∧ win0_5.index t = ![t.val, 0] :=
  (by decide +kernel : ∀ t : Fin grid0.N, _)

/-- The tokens of a launch's arrays, as rows of logits. -/
abbrev rows (c : Dev nD) : Fin 16384 → Fin 64 → EReal :=
  row (m ((c : Thread nD τ).loc main_arg0)) (m ((c : Thread nD τ).loc main_arg1)) (m ((c : Thread nD τ).loc main_arg2))

/-- Column `j` of a point's strip 0 is the logits of its token 0 + `j`. -/
theorem strip0 (c : Dev nD) (t : Fin cfg0.N) (j : Fin 512) (i : Fin 16384) (hi : i.val = t.val * 2048 + (0 + j.val)) :
    col (logitsT (F := Ideal) (View.ld (iblk m c 1 t) r0_0) (View.ld (iblk m c 2 t) r0_1) (View.ld (iblk m c 0 t) r0_2)) j
      = rows m c i := by
  refine col_logitsT (fun e k => ?_) (fun e => ?_) fun k => ?_ <;> blk_point [iblk, V, idx t]

/-- Column `j` of a point's strip 1 is the logits of its token 512 + `j`. -/
theorem strip1 (c : Dev nD) (t : Fin cfg0.N) (j : Fin 512) (i : Fin 16384) (hi : i.val = t.val * 2048 + (512 + j.val)) :
    col (logitsT (F := Ideal) (View.ld (iblk m c 1 t) r0_0) (View.ld (iblk m c 2 t) r0_1) (View.ld (iblk m c 0 t) r0_5)) j
      = rows m c i := by
  refine col_logitsT (fun e k => ?_) (fun e => ?_) fun k => ?_ <;> blk_point [iblk, V, idx t]

/-- Column `j` of a point's strip 2 is the logits of its token 1024 + `j`. -/
theorem strip2 (c : Dev nD) (t : Fin cfg0.N) (j : Fin 512) (i : Fin 16384) (hi : i.val = t.val * 2048 + (1024 + j.val)) :
    col (logitsT (F := Ideal) (View.ld (iblk m c 1 t) r0_0) (View.ld (iblk m c 2 t) r0_1) (View.ld (iblk m c 0 t) r0_8)) j
      = rows m c i := by
  refine col_logitsT (fun e k => ?_) (fun e => ?_) fun k => ?_ <;> blk_point [iblk, V, idx t]

/-- Column `j` of a point's strip 3 is the logits of its token 1536 + `j`. -/
theorem strip3 (c : Dev nD) (t : Fin cfg0.N) (j : Fin 512) (i : Fin 16384) (hi : i.val = t.val * 2048 + (1536 + j.val)) :
    col (logitsT (F := Ideal) (View.ld (iblk m c 1 t) r0_0) (View.ld (iblk m c 2 t) r0_1) (View.ld (iblk m c 0 t) r0_11)) j
      = rows m c i := by
  refine col_logitsT (fun e k => ?_) (fun e => ?_) fun k => ?_ <;> blk_point [iblk, V, idx t]

/-- A stored row of logits, if the strip's column is `ρ`. -/
theorem logits_of_col {v : FVec Ideal S64x512 .f32} {ρ : Fin 64 → EReal} (x : S512x64.Idx) (hv : col v (x 0) = ρ) (e : Fin 64)
    (he : e.val = (x 1).val) : logits v x = ρ e := by
  subst hv
  obtain rfl : e = x 1 := Fin.ext he
  rw [eq_ix2 x]
  exact logits_apply _

/-- A stored row of picks, if the strip's column is `ρ`. -/
theorem topI_of_col {v : FVec Ideal S64x512 .f32} {ρ : Fin 64 → EReal} (x : S512x8.Idx) (hv : col v (x 0) = ρ) (hρ : Top ρ) (r : Fin 8)
    (hr : r.val = (x 1).val) : topI v x = BitVec.ofNat 32 (Rows.src ρ (rank r)).val := by
  subst hv
  obtain rfl : r = x 1 := Fin.ext hr
  rw [eq_ix2 x]
  exact topI_apply hρ _

/-- A stored row of weights, if the strip's column is `ρ`. -/
theorem topW_of_col {v : FVec Ideal S64x512 .f32} {ρ : Fin 64 → EReal} (x : S512x8.Idx) (hv : col v (x 0) = ρ) (hρ : Top ρ) (r : Fin 8)
    (hr : r.val = (x 1).val) : topW v x = weight ρ r := by
  subst hv
  obtain rfl : r = x 1 := Fin.ext hr
  rw [eq_ix2 x]
  exact topW_apply hρ _

/-- What a point leaves at place `y` of its logits, at the place `i` of the array where that lies. -/
theorem point3 (c : Dev nD) (t : Fin cfg0.N) (y : S2048x64.Idx) (i : S16384x64.Idx)
    (hi0 : (i 0).val = t.val * 2048 + (y 0).val) (hi1 : (i 1).val = (y 1).val) :
    out0_3 (iblk m c 0 t) (iblk m c 1 t) (iblk m c 2 t) y = rows m c (i 0) (i 1) := by
  rw [out3_eq]
  canon_tiles x h
  · exact logits_of_col x (strip3 m c t (x 0) (i 0) (by omega)) (i 1) (by omega)
  · exact logits_of_col x (strip2 m c t (x 0) (i 0) (by omega)) (i 1) (by omega)
  · exact logits_of_col x (strip1 m c t (x 0) (i 0) (by omega)) (i 1) (by omega)
  · exact logits_of_col x (strip0 m c t (x 0) (i 0) (by omega)) (i 1) (by omega)

/-- The array of logits after the launch. -/
theorem final3 (c : Dev nD) : (dats m 0 c).arrAt 3 (cfgs 0).N = fun i : S16384x64.Idx => rows m c (i 0) (i 1) := by
  refine (dats m 0 c).arrAt_eq_of_covers 3 _ (by decide +kernel) fun t _ y => ?_
  blk_simp
  rw [after0_3]
  exact point3 m c t y _ (by blk_simp [idx t]) (by blk_simp [idx t])

/-- What a point leaves at place `y` of its picks, at the place `i` of the array where that lies. -/
theorem point4 (c : Dev nD) (hT : ∀ i, Top (rows m c i)) (t : Fin cfg0.N) (y : S2048x8.Idx) (i : S16384x8.Idx)
    (hi0 : (i 0).val = t.val * 2048 + (y 0).val) (hi1 : (i 1).val = (y 1).val) :
    out0_4 (iblk m c 0 t) (iblk m c 1 t) (iblk m c 2 t) y = BitVec.ofNat 32 (Rows.src (rows m c (i 0)) (rank (i 1))).val := by
  rw [out4_eq]
  canon_tiles x h
  · exact topI_of_col x (strip3 m c t (x 0) (i 0) (by omega)) (hT _) (i 1) (by omega)
  · exact topI_of_col x (strip2 m c t (x 0) (i 0) (by omega)) (hT _) (i 1) (by omega)
  · exact topI_of_col x (strip1 m c t (x 0) (i 0) (by omega)) (hT _) (i 1) (by omega)
  · exact topI_of_col x (strip0 m c t (x 0) (i 0) (by omega)) (hT _) (i 1) (by omega)

/-- The array of picks after the launch. -/
theorem final4 (c : Dev nD) (hT : ∀ i, Top (rows m c i)) : (dats m 0 c).arrAt 4 (cfgs 0).N = fun i : S16384x8.Idx => BitVec.ofNat 32 (Rows.src (rows m c (i 0)) (rank (i 1))).val := by
  refine (dats m 0 c).arrAt_eq_of_covers 4 _ (by decide +kernel) fun t _ y => ?_
  blk_simp
  rw [after0_4]
  exact point4 m c hT t y _ (by blk_simp [idx t]) (by blk_simp [idx t])

/-- What a point leaves at place `y` of its weights, at the place `i` of the array where that lies. -/
theorem point5 (c : Dev nD) (hT : ∀ i, Top (rows m c i)) (t : Fin cfg0.N) (y : S2048x8.Idx) (i : S16384x8.Idx)
    (hi0 : (i 0).val = t.val * 2048 + (y 0).val) (hi1 : (i 1).val = (y 1).val) :
    out0_5 (iblk m c 0 t) (iblk m c 1 t) (iblk m c 2 t) y = weight (rows m c (i 0)) (i 1) := by
  rw [out5_eq]
  canon_tiles x h
  · exact topW_of_col x (strip3 m c t (x 0) (i 0) (by omega)) (hT _) (i 1) (by omega)
  · exact topW_of_col x (strip2 m c t (x 0) (i 0) (by omega)) (hT _) (i 1) (by omega)
  · exact topW_of_col x (strip1 m c t (x 0) (i 0) (by omega)) (hT _) (i 1) (by omega)
  · exact topW_of_col x (strip0 m c t (x 0) (i 0) (by omega)) (hT _) (i 1) (by omega)

/-- The array of weights after the launch. -/
theorem final5 (c : Dev nD) (hT : ∀ i, Top (rows m c i)) : (dats m 0 c).arrAt 5 (cfgs 0).N = fun i : S16384x8.Idx => weight (rows m c (i 0)) (i 1) := by
  refine (dats m 0 c).arrAt_eq_of_covers 5 _ (by decide +kernel) fun t _ y => ?_
  blk_simp
  rw [after0_5]
  exact point5 m c hT t y _ (by blk_simp [idx t]) (by blk_simp [idx t])

end Cert.KernelIdeal.Rounds

end
-- ==== Proof.ReferenceValue.lean ====
/-
  THE REFERENCE'S RESULTS AND THE PRECONDITION, over the extended reals (hand-written, untrusted).

  The reference's logits at a token and an expert are `Rounds.row` (`logits_apply`); its top-k takes the row's first eight entries in
  the stable order (`topK_fst`, `topK_snd`); its softmax of them is `Rounds.weight` (`softmax_apply`). The precondition says that
  every row's eight greatest entries are above −∞ (`top_of_pre`).
-/
module

public import proofs.«01_k».proof.Defs
public import proofs.«01_k».proof.Proof.KernelValue
public import proofs.«01_k».proof.Proof.Gen.ReferenceIdeal.Run
public import Idealize.ShloMosaic.Lib.ReduceAll

@[expose] public section

set_option maxRecDepth 16384

noncomputable section

namespace Cert.ReferenceIdeal.Rounds

open Idealize.ShloMosaic Idealize.ShloMosaic.TcCoe Idealize.SL.Sem
open Cert.ReferenceIdeal Cert.ReferenceIdeal.Gen
open Cert.KernelIdeal.Rounds (row rank Top weight ofBits_negInf)

/-- The reference's logits. -/
abbrev logits (X : FVec Ideal S16384x2048 .f32) (W : FVec Ideal S64x2048 .f32) (b : FVec Ideal S64 .f32) : FVec Ideal S16384x64 .f32 :=
  addf (Host.dotGeneral dot_S16384x2048_S2048x64_S16384x64_1_0_0_1_n_n none X
      (transpose S2048x64 [1, 0] W transposes_S64x2048_S2048x64_1_0))
    (broadcastInDim S16384x64 ![0, 1] bcast_S1x64_S16384x64_0_1 (broadcastInDim S1x64 ![1] bcast_S64_S1x64_1 b))

/-- The reference's logit of token `i` and expert `e`. -/
theorem logits_apply (X : FVec Ideal S16384x2048 .f32) (W : FVec Ideal S64x2048 .f32) (b : FVec Ideal S64 .f32) (i : Fin 16384) (e : Fin 64) :
    logits X W b (ix2 i e) = row X W b i e := by
  pointwise [logits]
  rfl

/-- Row `i` of an array of logits. -/
abbrev rowOf (L : FVec Ideal S16384x64 .f32) (i : Fin 16384) : Fin 64 → EReal := fun e => L (ix2 i e)

/-- The reference's top-k of an array of logits. -/
abbrev top (L : FVec Ideal S16384x64 .f32) : FVec Ideal S16384x8 .f32 × IVec S16384x8 32 :=
  Host.topK S16384x8 1 (FloatOps.cmpfTotal (F := Ideal) (φ := .f32) .gt) L sliceFits_S16384x64_S16384x8

/-- Along a row, place `k` of the row of index `(i, r)` is index `(i, k)`. -/
theorem along_row (i : Fin 16384) (r k : Fin 64) : (ix2 i r : S16384x64.Idx).along (1 : Fin 2) k = ix2 i k := by
  funext a
  fin_cases a <;> rfl

/-- The top-k's values: the row's entries in the stable order. -/
theorem topK_fst (L : FVec Ideal S16384x64 .f32) (i : Fin 16384) (r : Fin 8) :
    (top L).1 (ix2 i r) = rowOf L i (Rows.src (rowOf L i) (rank r)) := by
  unfold top Host.topK Host.sort2
  pointwise
  simp only [along_row]
  rfl

/-- The top-k's indices: the places of those entries. -/
theorem topK_snd (L : FVec Ideal S16384x64 .f32) (i : Fin 16384) (r : Fin 8) :
    (top L).2 (ix2 i r) = BitVec.ofNat 32 (Rows.src (rowOf L i) (rank r)).val := by
  unfold top Host.topK Host.sort2
  pointwise
  simp only [along_row]
  rfl

/-- The reference's softmax of the top values. -/
abbrev softmax (V : FVec Ideal S16384x8 .f32) : FVec Ideal S16384x8 .f32 :=
  Host.divf (Host.exp (subf V (broadcastInDim S16384x8 ![0, 1] bcast_S16384x1_S16384x8_0_1 (broadcastInDim S16384x1 ![0] bcast_S16384_S16384x1_0 (maximumf (broadcastInDim S16384 ![] bcast_S_S16384 (constant S_ .f32 0xFF800000#32)) (Host.reduce FloatOps.maximumf V (constant S_ .f32 0xFF800000#32) reducesTo_S16384x8_S16384_d1 h_S_)))))) (broadcastInDim S16384x8 ![0, 1] bcast_S16384x1_S16384x8_0_1 (broadcastInDim S16384x1 ![0] bcast_S16384_S16384x1_0 (Host.reduceAdd (Host.exp (subf V (broadcastInDim S16384x8 ![0, 1] bcast_S16384x1_S16384x8_0_1 (broadcastInDim S16384x1 ![0] bcast_S16384_S16384x1_0 (maximumf (broadcastInDim S16384 ![] bcast_S_S16384 (constant S_ .f32 0xFF800000#32)) (Host.reduce FloatOps.maximumf V (constant S_ .f32 0xFF800000#32) reducesTo_S16384x8_S16384_d1 h_S_)))))) (constant S_ .f32 0x00000000#32) reducesTo_S16384x8_S16384_d1 h_S_)))

/-- The softmax of the top values is the weight the kernel computes. -/
theorem softmax_apply (L : FVec Ideal S16384x64 .f32) (i : Fin 16384) (r : Fin 8) :
    softmax (top L).1 (ix2 i r) = weight (rowOf L i) r := by
  pointwise [softmax, ofBits_negInf]
  simp only [topK_fst]
  rw [Rows.fold_max_src (by decide) (rowOf L i), bot_sup_eq]
  rfl

/-- Row `i` of the reference's logits. -/
theorem rowOf_logits (X : FVec Ideal S16384x2048 .f32) (W : FVec Ideal S64x2048 .f32) (b : FVec Ideal S64 .f32) (i : Fin 16384) :
    rowOf (logits X W b) i = row X W b i :=
  funext (logits_apply X W b i)

/-- The reference's logits, as an array. -/
theorem logits_eq (X : FVec Ideal S16384x2048 .f32) (W : FVec Ideal S64x2048 .f32) (b : FVec Ideal S64 .f32) :
    logits X W b = fun i : S16384x64.Idx => row X W b (i 0) (i 1) := by
  funext i
  rw [← ix2_eta i]
  exact logits_apply X W b (i 0) (i 1)

/-- The reference's indices, as an array. -/
theorem indices_eq (X : FVec Ideal S16384x2048 .f32) (W : FVec Ideal S64x2048 .f32) (b : FVec Ideal S64 .f32) :
    (top (logits X W b)).2 = fun i : S16384x8.Idx => BitVec.ofNat 32 (Rows.src (row X W b (i 0)) (rank (i 1))).val := by
  have h (i : Fin 16384) (r : Fin 8) :
      (top (logits X W b)).2 (ix2 i r) = BitVec.ofNat 32 (Rows.src (row X W b i) (rank r)).val := by
    rw [topK_snd, rowOf_logits]
  funext i
  rw [← ix2_eta i]
  exact h (i 0) (i 1)

/-- The reference's weights, as an array. -/
theorem weights_eq (X : FVec Ideal S16384x2048 .f32) (W : FVec Ideal S64x2048 .f32) (b : FVec Ideal S64 .f32) :
    softmax (top (logits X W b)).1 = fun i : S16384x8.Idx => weight (row X W b (i 0)) (i 1) := by
  have h (i : Fin 16384) (r : Fin 8) : softmax (top (logits X W b)).1 (ix2 i r) = weight (row X W b i) r := by
    rw [softmax_apply, rowOf_logits]
  funext i
  rw [← ix2_eta i]
  exact h (i 0) (i 1)

/-- The side conditions of the precondition's operations hold. -/
theorem preFacts : Cert.Pre_top_above_bottom.Facts where
  transposes_S64x2048_S2048x64_1_0 := by decide
  bcast_S64_S1x64_1 := by decide
  bcast_S1x64_S16384x64_0_1 := by decide
  sliceFits_S16384x64_S16384x8 := by decide
  bcast_S_S16384x8 := by decide
  reducesTo_S16384x8_S_d0_1 := by decide
  h_S_ := by decide
  dot_S16384x2048_S2048x64_S16384x64_1_0_0_1_n_n_wf := by decide

/-- The precondition says of every token that its eight greatest logits are above −∞. -/
theorem top_of_pre (hPre : Cert.Pre_top_above_bottom.Facts) (X : FVec Ideal S16384x2048 .f32) (W : FVec Ideal S64x2048 .f32)
    (b : FVec Ideal S64 .f32) (h : Cert.Pre_top_above_bottom.fn (F := Ideal) X W b = fun _ => 1#1) (i : Fin 16384) :
    Top (row X W b i) := by
  intro r
  have h1 : cmpf .ogt (top (logits X W b)).1 (broadcastInDim S16384x8 ![] hPre.bcast_S_S16384x8 (constant S_ .f32 0xFF800000#32))
      (ix2 i r) = 1#1 :=
    Host.reduce_andi_eq_one _ _ _ _ (fun a => a.elim0) (congrFun h _) (ix2 i r) (funext fun a => a.elim0)
  have h2 : (top (logits X W b)).1 (ix2 i r) = row X W b i (Rows.src (row X W b i) (rank r)) := by
    rw [topK_fst, rowOf_logits]
  rw [← h2]
  by_contra h3
  revert h1
  pointwise [ofBits_negInf]
  rw [decide_eq_false h3]
  decide

end Cert.ReferenceIdeal.Rounds

end
-- ==== Proof.lean ====
/-
  THE PROOF OF `Cert.Claim` (hand-written, untrusted): the frames, and the equation of kernel and reference over the extended reals.
  Both end with the rows of logits `Rounds.row`, the places of each row's eight greatest entries in a stable order, and the softmax
  of those entries.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.ReferenceValue
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel
open Cert.KernelIdeal.Rounds (row rows Top final3 final4 final5)
open Cert.ReferenceIdeal.Rounds (preFacts top_of_pre indices_eq weights_eq logits_eq)

/-- The kernel at bit patterns ends with its arguments unchanged. -/
theorem frame_kernel : Cert.quiescent_Kernel := fun m ρ _ => Cert.Kernel.Gen.frame m ρ

/-- The kernel at extended reals ends with its arguments unchanged. -/
theorem frame_kernelIdeal : Cert.quiescent_KernelIdeal := fun m ρ _ => Cert.KernelIdeal.Gen.frame m ρ

/-- The reference at extended reals ends with its arguments unchanged. -/
theorem frame_referenceIdeal : Cert.quiescent_ReferenceIdeal := fun m ρ _ =>
  (θ_run Cert.ReferenceIdeal.defs _ _).mono
    (fun r h => ⟨fun c => (h c).2.2.2, sem_eq_zero_of_no_sems (by decide) r.2⟩)
    (Cert.ReferenceIdeal.Value.run (F := Ideal) m ρ)

/-- The kernel and the reference over the extended reals end with the same indices, weights and logits. -/
theorem algebraic : Cert.algebraic_KernelIdeal_ReferenceIdeal_pre_top_above_bottom
    (hPre_top_above_bottom := preFacts) := by
  pair_intro
  · run_from Cert.KernelIdeal.Gen.run_main m g
  · refine (θ_run Cert.ReferenceIdeal.defs _ _).mono (fun r h c => ?_) (Cert.ReferenceIdeal.Value.run (F := Ideal) m' g')
    obtain ⟨h0, h1, h2, hf⟩ := h c
    have e := hagree c
    have hrow : row (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2)) = rows m c := by
      rw [e.1, e.2.1, e.2.2]
    have hTop (i : Fin 16384) : Top (rows m c i) := top_of_pre preFacts _ _ _ (hpre c) i
    rw [final3 m c, final4 m c hTop, final5 m c hTop, ← hrow]
    exact ⟨h0.trans (indices_eq _ _ _), h1.trans (weights_eq _ _ _), h2.trans (logits_eq _ _ _), hf⟩

/-- Everything the certificate claims. -/
theorem claim : Cert.Claim := ⟨Cert.Kernel.Gen.facts, Cert.KernelIdeal.Gen.facts, Cert.ReferenceIdeal.Gen.facts,
  preFacts, frame_kernel, frame_kernelIdeal, fun m ρ _ => frame_kernelIdeal m ρ trivial,
  frame_referenceIdeal, fun m ρ _ => frame_referenceIdeal m ρ trivial, trivial, algebraic⟩

end Cert.Proof

end
